-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x512 : Shape := ⟨3, ![2, 2048, 512]⟩
abbrev S2x64x16 : Shape := ⟨3, ![2, 64, 16]⟩
abbrev S2x512x5632 : Shape := ⟨3, ![2, 512, 5632]⟩
abbrev S2x16x176 : Shape := ⟨3, ![2, 16, 176]⟩
abbrev S2x16x11x16 : Shape := ⟨4, ![2, 16, 11, 16]⟩
abbrev S2x11x16x16 : Shape := ⟨4, ![2, 11, 16, 16]⟩
abbrev S2048x5632 : Shape := ⟨2, ![2048, 5632]⟩
abbrev S2x512x512 : Shape := ⟨3, ![2, 512, 512]⟩
abbrev S2x1x16x16 : Shape := ⟨4, ![2, 1, 16, 16]⟩
abbrev S2048x512 : Shape := ⟨2, ![2048, 512]⟩
abbrev S2048x1024 : Shape := ⟨2, ![2048, 1024]⟩
abbrev S1024x512 : Shape := ⟨2, ![1024, 512]⟩
abbrev S1x8x16 : Shape := ⟨3, ![1, 8, 16]⟩
abbrev S8x16 : Shape := ⟨2, ![8, 16]⟩
abbrev S8x128 : Shape := ⟨2, ![8, 128]⟩
abbrev S8x112 : Shape := ⟨2, ![8, 112]⟩
abbrev S8x128x1 : Shape := ⟨3, ![8, 128, 1]⟩
abbrev S8x512 : Shape := ⟨2, ![8, 512]⟩
abbrev S1x256x512 : Shape := ⟨3, ![1, 256, 512]⟩
abbrev S256x512 : Shape := ⟨2, ![256, 512]⟩
abbrev S8x1x512 : Shape := ⟨3, ![8, 1, 512]⟩
abbrev S8x32x512 : Shape := ⟨3, ![8, 32, 512]⟩
abbrev S1x1x16x16 : Shape := ⟨4, ![1, 1, 16, 16]⟩
abbrev S16x16 : Shape := ⟨2, ![16, 16]⟩
abbrev S16x128 : Shape := ⟨2, ![16, 128]⟩
abbrev S16x112 : Shape := ⟨2, ![16, 112]⟩
abbrev S16x128x1 : Shape := ⟨3, ![16, 128, 1]⟩
abbrev S16x512 : Shape := ⟨2, ![16, 512]⟩
abbrev S1x512x512 : Shape := ⟨3, ![1, 512, 512]⟩
abbrev S512x512 : Shape := ⟨2, ![512, 512]⟩
abbrev S16x1x512 : Shape := ⟨3, ![16, 1, 512]⟩
abbrev S16x32x512 : Shape := ⟨3, ![16, 32, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x2048x512, .i8⟩
  | .hbm, ⟨1, _⟩ => ⟨S2x64x16, .f32⟩
  | .hbm, ⟨2, _⟩ => ⟨S2x512x5632, .i8⟩
  | .hbm, ⟨3, _⟩ => ⟨S2x16x176, .f32⟩
  | .hbm, ⟨4, _⟩ => ⟨S2x16x11x16, .f32⟩
  | .hbm, ⟨5, _⟩ => ⟨S2x11x16x16, .f32⟩
  | .hbm, ⟨6, _⟩ => ⟨S2048x5632, .f32⟩
  | .local _ .vmem, ⟨0, _⟩ => ⟨S2x2048x512, .i8⟩
  | .local _ .vmem, ⟨1, _⟩ => ⟨S2x64x16, .f32⟩
  | .local _ .vmem, ⟨2, _⟩ => ⟨S2x512x512, .i8⟩
  | .local _ .vmem, ⟨3, _⟩ => ⟨S2x512x512, .i8⟩
  | .local _ .vmem, ⟨4, _⟩ => ⟨S2x1x16x16, .f32⟩
  | .local _ .vmem, ⟨5, _⟩ => ⟨S2x1x16x16, .f32⟩
  | .local _ .vmem, ⟨6, _⟩ => ⟨S2048x512, .f32⟩
  | .local _ .vmem, ⟨7, _⟩ => ⟨S2048x512, .f32⟩
  | .local _ .vmem, ⟨8, _⟩ => ⟨S2048x1024, .bf16⟩
  | .local _ .vmem, ⟨9, _⟩ => ⟨S1024x512, .bf16⟩
  | _, _ => ⟨S2x2048x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2048x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x2048x512 : Shape := ⟨3, ![2, 2048, 512]⟩
abbrev S2x64x16 : Shape := ⟨3, ![2, 64, 16]⟩
abbrev S2x512x5632 : Shape := ⟨3, ![2, 512, 5632]⟩
abbrev S2x16x176 : Shape := ⟨3, ![2, 16, 176]⟩
abbrev S2x64x32x16x32 : Shape := ⟨5, ![2, 64, 32, 16, 32]⟩
abbrev S2x64x1x16x1 : Shape := ⟨5, ![2, 64, 1, 16, 1]⟩
abbrev S2x16x32x176x32 : Shape := ⟨5, ![2, 16, 32, 176, 32]⟩
abbrev S2x16x1x176x1 : Shape := ⟨5, ![2, 16, 1, 176, 1]⟩
abbrev S2048x5632 : Shape := ⟨2, ![2048, 5632]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x512, .i8⟩
  | .hbm, ⟨1, _⟩ => ⟨S2x64x16, .f32⟩
  | .hbm, ⟨2, _⟩ => ⟨S2x512x5632, .i8⟩
  | .hbm, ⟨3, _⟩ => ⟨S2x16x176, .f32⟩
  | .hbm, ⟨4, _⟩ => ⟨S2x64x32x16x32, .i8⟩
  | .hbm, ⟨5, _⟩ => ⟨S2x64x32x16x32, .i32⟩
  | .hbm, ⟨6, _⟩ => ⟨S2x64x32x16x32, .bf16⟩
  | .hbm, ⟨7, _⟩ => ⟨S2x64x16, .bf16⟩
  | .hbm, ⟨8, _⟩ => ⟨S2x64x1x16x1, .bf16⟩
  | .hbm, ⟨9, _⟩ => ⟨S2x64x32x16x32, .bf16⟩
  | .hbm, ⟨10, _⟩ => ⟨S2x64x32x16x32, .bf16⟩
  | .hbm, ⟨11, _⟩ => ⟨S2x2048x512, .bf16⟩
  | .hbm, ⟨12, _⟩ => ⟨S2x16x32x176x32, .i8⟩
  | .hbm, ⟨13, _⟩ => ⟨S2x16x32x176x32, .i32⟩
  | .hbm, ⟨14, _⟩ => ⟨S2x16x32x176x32, .bf16⟩
  | .hbm, ⟨15, _⟩ => ⟨S2x16x176, .bf16⟩
  | .hbm, ⟨16, _⟩ => ⟨S2x16x1x176x1, .bf16⟩
  | .hbm, ⟨17, _⟩ => ⟨S2x16x32x176x32, .bf16⟩
  | .hbm, ⟨18, _⟩ => ⟨S2x16x32x176x32, .bf16⟩
  | .hbm, ⟨19, _⟩ => ⟨S2x512x5632, .bf16⟩
  | .hbm, ⟨20, _⟩ => ⟨S2048x5632, .f32⟩
  | _, _ => ⟨S2x2048x512, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proof.Chunk.lean ====
/- The kernel's dequantised chunks as plain functions of what they load: the scale table expanded along the lanes by a
   gather, its rows repeated, times the codes. Every chunk of the body computes one of these two functions. -/
module

public import proofs.«01_k».proof.Proof.Gen.KernelIdeal.Skeleton
public import Idealize.ShloMosaic.Lib.Pointwise

@[expose] public section

set_option maxRecDepth 16384

noncomputable section

namespace Cert.KernelIdeal.Chunk

open Cert.KernelIdeal Cert.KernelIdeal.Gen Idealize.ShloMosaic

variable {F : FTy → Type} [FloatOps F]

/-- The lane's gather index as the body computes it from the lane numbers `io`: the floor division by 32 (jnp's
    spelling, with its sign correction), plus the group's first table lane, wrapped if negative. -/
def laneIdx (S : Shape) (io : IVec S 32) (first : BitVec 32) : IVec S 32 :=
  let q : IVec S 32 := divsi io (broadcast S 32#32)
  let sg : IVec S 32 := subi (extui 32 (cmpi .sgt io (broadcast S 0#32)) natLt_1_32)
    (extui 32 (cmpi .slt io (broadcast S 0#32)) natLt_1_32)
  let s32 : BitVec 32 := Scalar.subi (Scalar.extui (Scalar.cmpi .sgt 32#32 0#32)) (Scalar.extui (Scalar.cmpi .slt 32#32 0#32))
  let adj : IVec S 1 := andi (cmpi .ne sg (broadcast S s32)) (cmpi .ne (remsi io (broadcast S 32#32)) (broadcast S 0#32))
  let fl : IVec S 32 := select adj (subi q (broadcast S 1#32)) q
  let w : IVec S 32 := addi fl (broadcast S first)
  select (cmpi .slt w (broadcast S 0#32)) (addi w (broadcast S 128#32)) w

/-- One group of 128 lanes of the expanded scales of 8 rows of blocks: a gather along the lanes of the table `t`. -/
def grp8 (t : FVec F S8x128 .f32) (first : BitVec 32) : FVec F S8x128 .f32 :=
  dynamicGather 1 t (shapeCast S8x128 (shapeCast S8x128x1 (laneIdx S8x128 (iota .tc S8x128 32 [1] iota_S8x128_d1_w32) first)
    shapeCasts_S8x128_S8x128x1) shapeCasts_S8x128x1_S8x128)

/-- The 8 rows of scales as a table of 128 lanes: 16 scales, then zeros. -/
def tbl8 (s : Vec F S1x8x16 .f32) : FVec F S8x128 .f32 :=
  concatenate S8x128 1 [⟨S8x16, shapeCast S8x16 s shapeCasts_S1x8x16_S8x16⟩,
    ⟨S8x112, broadcast S8x112 (Scalar.ofBits .f32 0x00000000#32)⟩] concatenates_S8x16_S8x112_S8x128_d1

/-- The 8 rows of scales expanded to 512 lanes: four gathered groups side by side. -/
def exp8 (s : Vec F S1x8x16 .f32) : FVec F S8x512 .f32 :=
  concatenate S8x512 1 [⟨S8x128, grp8 (tbl8 s) 0#32⟩, ⟨S8x128, grp8 (tbl8 s) 4#32⟩,
    ⟨S8x128, grp8 (tbl8 s) 8#32⟩, ⟨S8x128, grp8 (tbl8 s) 12#32⟩] concatenates_S8x128_S8x128_S8x128_S8x128_S8x512_d1

/-- The dequantised 256 × 512 chunk of `x` that the body stores, from the chunk's codes and its 8 × 16 scales. -/
def chunkX (s : Vec F S1x8x16 .f32) (v : Vec F S1x256x512 .i8) : FVec F S256x512 .bf16 :=
  let b : FVec F S256x512 .bf16 := shapeCast S256x512 (broadcastTo S8x32x512 (shapeCast S8x1x512 (shapeCast S8x1x512
    (truncf .bf16 (exp8 s) bitsLt_bf16_f32) shapeCasts_S8x512_S8x1x512) shapeCasts_S8x1x512_S8x1x512) broadcasts_S8x1x512_S8x32x512)
    shapeCasts_S8x32x512_S256x512
  shapeCast S256x512 (mulf (sitofp .bf16 (shapeCast S256x512 v shapeCasts_S1x256x512_S256x512)) b) shapeCasts_S256x512_S256x512

/-- One group of 128 lanes of the expanded scales of 16 rows of blocks: a gather along the lanes of the table `t`. -/
def grp16 (t : FVec F S16x128 .f32) (first : BitVec 32) : FVec F S16x128 .f32 :=
  dynamicGather 1 t (shapeCast S16x128 (shapeCast S16x128x1 (laneIdx S16x128 (iota .tc S16x128 32 [1] iota_S16x128_d1_w32) first)
    shapeCasts_S16x128_S16x128x1) shapeCasts_S16x128x1_S16x128)

/-- The 16 rows of scales as a table of 128 lanes: 16 scales, then zeros. -/
def tbl16 (s : Vec F S1x1x16x16 .f32) : FVec F S16x128 .f32 :=
  concatenate S16x128 1 [⟨S16x16, shapeCast S16x16 s shapeCasts_S1x1x16x16_S16x16⟩,
    ⟨S16x112, broadcast S16x112 (Scalar.ofBits .f32 0x00000000#32)⟩] concatenates_S16x16_S16x112_S16x128_d1

/-- The 16 rows of scales expanded to 512 lanes: four gathered groups side by side. -/
def exp16 (s : Vec F S1x1x16x16 .f32) : FVec F S16x512 .f32 :=
  concatenate S16x512 1 [⟨S16x128, grp16 (tbl16 s) 0#32⟩, ⟨S16x128, grp16 (tbl16 s) 4#32⟩,
    ⟨S16x128, grp16 (tbl16 s) 8#32⟩, ⟨S16x128, grp16 (tbl16 s) 12#32⟩] concatenates_S16x128_S16x128_S16x128_S16x128_S16x512_d1

/-- The dequantised 512 × 512 chunk of `dy` that the body stores, from the chunk's codes and its 16 × 16 scales. -/
def chunkD (s : Vec F S1x1x16x16 .f32) (v : Vec F S1x512x512 .i8) : FVec F S512x512 .bf16 :=
  let b : FVec F S512x512 .bf16 := shapeCast S512x512 (broadcastTo S16x32x512 (shapeCast S16x1x512 (shapeCast S16x1x512
    (truncf .bf16 (exp16 s) bitsLt_bf16_f32) shapeCasts_S16x512_S16x1x512) shapeCasts_S16x1x512_S16x1x512) broadcasts_S16x1x512_S16x32x512)
    shapeCasts_S16x32x512_S512x512
  shapeCast S512x512 (mulf (sitofp .bf16 (shapeCast S512x512 v shapeCasts_S1x512x512_S512x512)) b) shapeCasts_S512x512_S512x512

/-- The gather index of one lane, as a word of the lane's number. -/
def laneWord (w first : BitVec 32) : BitVec 32 :=
  laneIdx ⟨0, ![]⟩ (fun _ => w) first (fun a => a.elim0)

/-- The index word of an entry depends on that entry's lane number only. -/
theorem laneIdx_apply (S : Shape) (io : IVec S 32) (first : BitVec 32) (j : S.Idx) :
    laneIdx S io first j = laneWord (io j) first := rfl

/-- The four groups' gather indices: lane `l` of the group starting at block `f` reads table lane `l / 32 + f`. -/
theorem laneWord_toNat : ∀ (f : Fin 4) (l : Fin 128),
    (laneWord (BitVec.ofNat 32 l.val) (BitVec.ofNat 32 (4 * f.val))).toNat = l.val / 32 + 4 * f.val := by
  decide +kernel

/-- The table of 8 rows at one of its first 16 lanes is the scale there. -/
theorem tbl8_apply (s : Vec F S1x8x16 .f32) (r : Fin 8) (l : Fin 128) (h : l.val < 16) :
    tbl8 s (ix2 r l) = s (ix3 0 r ⟨l.val, h⟩) := by
  unfold tbl8
  pointwise
  rw [dif_pos h]

/-- An entry of a gathered group of 8 rows: the scale of the lane's block. -/
theorem grp8_apply (s : Vec F S1x8x16 .f32) (f : Fin 4) (r : Fin 8) (l : Fin 128) :
    grp8 (tbl8 s) (BitVec.ofNat 32 (4 * f.val)) (ix2 r l) = s (ix3 0 r ⟨l.val / 32 + 4 * f.val, by omega⟩) := by
  unfold grp8
  rw [dynamicGather_apply]
  have h : (shapeCast S8x128 (shapeCast S8x128x1 (laneIdx S8x128 (iota .tc S8x128 32 [1] iota_S8x128_d1_w32)
      (BitVec.ofNat 32 (4 * f.val))) shapeCasts_S8x128_S8x128x1) shapeCasts_S8x128x1_S8x128) (ix2 r l)
      = laneWord (BitVec.ofNat 32 l.val) (BitVec.ofNat 32 (4 * f.val)) := by
    pointwise
    rw [laneIdx_apply]
    pointwise
  rw [← tbl8_apply s r ⟨l.val / 32 + 4 * f.val, by omega⟩ (by show l.val / 32 + 4 * f.val < 16; omega)]
  refine congrArg (tbl8 s) (funext fun b => Fin.ext ?_)
  match b with
  | 0 => rfl
  | 1 =>
    show BitVec.toNat (_ : BitVec 32) % 128 = l.val / 32 + 4 * f.val
    rw [h, laneWord_toNat]
    omega

/-- The expanded scales of 8 rows: lane `l` holds the scale of block `l / 32`. -/
theorem exp8_apply (s : Vec F S1x8x16 .f32) (r : Fin 8) (l : Fin 512) :
    exp8 s (ix2 r l) = s (ix3 0 r ⟨l.val / 32, by omega⟩) := by
  have key : ∀ (f : ℕ) (hf : f < 4) (w : BitVec 32) (_ : w = BitVec.ofNat 32 (4 * f)) (k : Fin 128), l.val = k.val + 128 * f →
      grp8 (tbl8 s) w (ix2 r k) = s (ix3 0 r ⟨l.val / 32, by omega⟩) := fun f hf w hw k hk => by
    subst hw
    exact (grp8_apply s ⟨f, hf⟩ r k).trans (congrArg (fun x => s (ix3 0 r x)) (Fin.ext (by show k.val / 32 + 4 * f = l.val / 32; omega)))
  unfold exp8
  pointwise
  by_cases h0 : l.val < 128
  · rw [dif_pos h0]
    exact key 0 (by omega) 0#32 rfl ⟨l.val, by omega⟩ (by dsimp only; omega)
  rw [dif_neg h0]
  by_cases h1 : l.val - 128 < 128
  · rw [dif_pos h1]
    exact key 1 (by omega) 4#32 rfl ⟨l.val - 128, by omega⟩ (by dsimp only; omega)
  rw [dif_neg h1]
  by_cases h2 : l.val - 128 - 128 < 128
  · rw [dif_pos h2]
    exact key 2 (by omega) 8#32 rfl ⟨l.val - 128 - 128, by omega⟩ (by dsimp only; omega)
  rw [dif_neg h2]
  exact key 3 (by omega) 12#32 rfl ⟨l.val - 128 - 128 - 128, by omega⟩ (by dsimp only; omega)

/-- An entry of a dequantised chunk of `x` in exact arithmetic: its code times the scale of its block. -/
theorem chunkX_apply (s : Vec Ideal S1x8x16 .f32) (v : Vec Ideal S1x256x512 .i8) (r : Fin 256) (l : Fin 512) :
    chunkX s v (ix2 r l) = FloatOps.sitofp (F := Ideal) .bf16 (v (ix3 0 r l))
      * s (ix3 0 ⟨r.val / 32, by omega⟩ ⟨l.val / 32, by omega⟩) := by
  unfold chunkX
  pointwise
  rw [exp8_apply]

/-- The table of 16 rows at one of its first 16 lanes is the scale there. -/
theorem tbl16_apply (s : Vec F S1x1x16x16 .f32) (r : Fin 16) (l : Fin 128) (h : l.val < 16) :
    tbl16 s (ix2 r l) = s (ix4 0 0 r ⟨l.val, h⟩) := by
  unfold tbl16
  pointwise
  rw [dif_pos h]

/-- An entry of a gathered group of 16 rows: the scale of the lane's block. -/
theorem grp16_apply (s : Vec F S1x1x16x16 .f32) (f : Fin 4) (r : Fin 16) (l : Fin 128) :
    grp16 (tbl16 s) (BitVec.ofNat 32 (4 * f.val)) (ix2 r l) = s (ix4 0 0 r ⟨l.val / 32 + 4 * f.val, by omega⟩) := by
  unfold grp16
  rw [dynamicGather_apply]
  have h : (shapeCast S16x128 (shapeCast S16x128x1 (laneIdx S16x128 (iota .tc S16x128 32 [1] iota_S16x128_d1_w32)
      (BitVec.ofNat 32 (4 * f.val))) shapeCasts_S16x128_S16x128x1) shapeCasts_S16x128x1_S16x128) (ix2 r l)
      = laneWord (BitVec.ofNat 32 l.val) (BitVec.ofNat 32 (4 * f.val)) := by
    pointwise
    rw [laneIdx_apply]
    pointwise
  rw [← tbl16_apply s r ⟨l.val / 32 + 4 * f.val, by omega⟩ (by show l.val / 32 + 4 * f.val < 16; omega)]
  refine congrArg (tbl16 s) (funext fun b => Fin.ext ?_)
  match b with
  | 0 => rfl
  | 1 =>
    show BitVec.toNat (_ : BitVec 32) % 128 = l.val / 32 + 4 * f.val
    rw [h, laneWord_toNat]
    omega

/-- The expanded scales of 16 rows: lane `l` holds the scale of block `l / 32`. -/
theorem exp16_apply (s : Vec F S1x1x16x16 .f32) (r : Fin 16) (l : Fin 512) :
    exp16 s (ix2 r l) = s (ix4 0 0 r ⟨l.val / 32, by omega⟩) := by
  have key : ∀ (f : ℕ) (hf : f < 4) (w : BitVec 32) (_ : w = BitVec.ofNat 32 (4 * f)) (k : Fin 128), l.val = k.val + 128 * f →
      grp16 (tbl16 s) w (ix2 r k) = s (ix4 0 0 r ⟨l.val / 32, by omega⟩) := fun f hf w hw k hk => by
    subst hw
    exact (grp16_apply s ⟨f, hf⟩ r k).trans (congrArg (fun x => s (ix4 0 0 r x)) (Fin.ext (by show k.val / 32 + 4 * f = l.val / 32; omega)))
  unfold exp16
  pointwise
  by_cases h0 : l.val < 128
  · rw [dif_pos h0]
    exact key 0 (by omega) 0#32 rfl ⟨l.val, by omega⟩ (by dsimp only; omega)
  rw [dif_neg h0]
  by_cases h1 : l.val - 128 < 128
  · rw [dif_pos h1]
    exact key 1 (by omega) 4#32 rfl ⟨l.val - 128, by omega⟩ (by dsimp only; omega)
  rw [dif_neg h1]
  by_cases h2 : l.val - 128 - 128 < 128
  · rw [dif_pos h2]
    exact key 2 (by omega) 8#32 rfl ⟨l.val - 128 - 128, by omega⟩ (by dsimp only; omega)
  rw [dif_neg h2]
  exact key 3 (by omega) 12#32 rfl ⟨l.val - 128 - 128 - 128, by omega⟩ (by dsimp only; omega)

/-- An entry of a dequantised chunk of `dy` in exact arithmetic: its code times the scale of its block. -/
theorem chunkD_apply (s : Vec Ideal S1x1x16x16 .f32) (v : Vec Ideal S1x512x512 .i8) (r : Fin 512) (l : Fin 512) :
    chunkD s v (ix2 r l) = FloatOps.sitofp (F := Ideal) .bf16 (v (ix3 0 r l))
      * s (ix4 0 0 ⟨r.val / 32, by omega⟩ ⟨l.val / 32, by omega⟩) := by
  unfold chunkD
  pointwise
  rw [exp16_apply]

end Cert.KernelIdeal.Chunk

end
-- ==== Proof.Pieces.lean ====
/- The dequantised operands of the product as arrays, and the stores of the body that write them: sixteen chunks of `x` in the
   resident scratch, two chunks of `dy` in the other. -/
module

public import proofs.«01_k».proof.Proof.Gen.KernelIdeal.Value
public import proofs.«01_k».proof.Proof.Chunk
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Pieces

open Cert.KernelIdeal Cert.KernelIdeal.Gen Cert.KernelIdeal.Chunk Idealize.ShloMosaic Idealize.ShloMosaic.Tactic

variable {F : FTy → Type} [FloatOps F]

/-- The chunk of `x` from batch `b`, rows `256 r …`: its rectangle in the scratch, and what is stored there. -/
def xPc (x0 : Vec F S2x2048x512 .i8) (x1 : Vec F S2x64x16 .f32) (b : Fin 2) (r : Fin 8) :
    View.Piece (Elt F) S2048x1024 .bf16 :=
  ⟨Rect.unit (s := S2048x1024) ![256 * r.val, 512 * b.val] S256x512.size
      (by revert b r; decide),
    chunkX (View.ld x1 (Rect.unit (s := S2x64x16) ![b.val, 8 * r.val, 0] S1x8x16.size (by revert b r; decide)))
      (View.ld x0 (Rect.unit (s := S2x2048x512) ![b.val, 256 * r.val, 0] S1x256x512.size (by revert b r; decide)))⟩

/-- The sixteen stores of the first point into the resident scratch, last first. -/
def xPieces (x0 : Vec F S2x2048x512 .i8) (x1 : Vec F S2x64x16 .f32) : List (View.Piece (Elt F) S2048x1024 .bf16) :=
  [xPc x0 x1 1 7, xPc x0 x1 1 6, xPc x0 x1 1 5, xPc x0 x1 1 4, xPc x0 x1 1 3, xPc x0 x1 1 2, xPc x0 x1 1 1, xPc x0 x1 1 0,
   xPc x0 x1 0 7, xPc x0 x1 0 6, xPc x0 x1 0 5, xPc x0 x1 0 4, xPc x0 x1 0 3, xPc x0 x1 0 2, xPc x0 x1 0 1, xPc x0 x1 0 0]

/-- The chunk of `dy` from batch `b`: its rectangle in the block's scratch, and what is stored there. -/
def dPc (x2 : Vec F S2x512x512 .i8) (x3 : Vec F S2x1x16x16 .f32) (b : Fin 2) : View.Piece (Elt F) S1024x512 .bf16 :=
  ⟨Rect.unit (s := S1024x512) ![512 * b.val, 0] S512x512.size (by revert b; decide),
    chunkD (View.ld x3 (Rect.unit (s := S2x1x16x16) ![b.val, 0, 0, 0] S1x1x16x16.size (by revert b; decide)))
      (View.ld x2 (Rect.unit (s := S2x512x512) ![b.val, 0, 0] S1x512x512.size (by revert b; decide)))⟩

/-- The two stores of every point into the block's scratch, last first. -/
def dPieces (x2 : Vec F S2x512x512 .i8) (x3 : Vec F S2x1x16x16 .f32) : List (View.Piece (Elt F) S1024x512 .bf16) :=
  [dPc x2 x3 1, dPc x2 x3 0]

section opened

variable (c : Dev nD) (i : grid0.Coords) (a1 : Memref sig .tc .vmem S2x2048x512 .i8) (h1 : a1.IsWhole)
    (a2 : Memref sig .tc .vmem S2x64x16 .f32) (h2 : a2.IsWhole) (a3 : Memref sig .tc .vmem S2x512x512 .i8) (h3 : a3.IsWhole)
    (a4 : Memref sig .tc .vmem S2x1x16x16 .f32) (h4 : a4.IsWhole) (a5 : Memref sig .tc .vmem S2048x512 .f32) (h5 : a5.IsWhole)
    (a6 : Memref sig .tc .vmem S2048x1024 .bf16) (h6 : a6.IsWhole) (a7 : Memref sig .tc .vmem S1024x512 .bf16) (h7 : a7.IsWhole)
    (x0 : Vec F S2x2048x512 .i8) (x1 : Vec F S2x64x16 .f32) (x2 : Vec F S2x512x512 .i8) (x3 : Vec F S2x1x16x16 .f32)

/-- The first point's stores into the resident scratch are the sixteen chunks of `x`. -/
theorem run_A_scratch (hc : cond0_0 i) :
    (kernelRun0_A c i a1 h1 a2 h2 a3 h3 a4 h4 a5 h5 a6 h6 a7 h7 hc x0 x1 x2 x3).2.1 = xPieces x0 x1 := by
  have h : (kernelRun0_A c i a1 h1 a2 h2 a3 h3 a4 h4 a5 h5 a6 h6 a7 h7 hc x0 x1 x2 x3).2.1 =
      xPieces (a1.view.read (Elt F) (h1.unread x0)) (a2.view.read (Elt F) (h2.unread x1)) := rfl
  rw [h, h1.read_unread, h2.read_unread]

/-- The first point's store into the output block: the product of what the two scratches read back. -/
theorem run_A_out (hc : cond0_0 i) :
    (kernelRun0_A c i a1 h1 a2 h2 a3 h3 a4 h4 a5 h5 a6 h6 a7 h7 hc x0 x1 x2 x3).1 =
      [⟨Rect.unit (s := S2048x512) ![0, 0] S2048x512.size inb_S2048x512_S2048x512_0_0,
        k0_pay1 (a6.view.readCov (xPieces x0 x1) (Rect.unit (s := S2048x1024) ![0, 0] S2048x1024.size inb_S2048x1024_S2048x1024_0_0).toLoadRect)
          (a7.view.readCov (dPieces x2 x3) (Rect.unit (s := S1024x512) ![0, 0] S1024x512.size inb_S1024x512_S1024x512_0_0).toLoadRect)⟩] := by
  have h : (kernelRun0_A c i a1 h1 a2 h2 a3 h3 a4 h4 a5 h5 a6 h6 a7 h7 hc x0 x1 x2 x3).1 =
      [⟨Rect.unit (s := S2048x512) ![0, 0] S2048x512.size inb_S2048x512_S2048x512_0_0,
        k0_pay1 (a6.view.readCov (xPieces (a1.view.read (Elt F) (h1.unread x0)) (a2.view.read (Elt F) (h2.unread x1)))
            (Rect.unit (s := S2048x1024) ![0, 0] S2048x1024.size inb_S2048x1024_S2048x1024_0_0).toLoadRect)
          (a7.view.readCov (dPieces (a3.view.read (Elt F) (h3.unread x2)) (a4.view.read (Elt F) (h4.unread x3)))
            (Rect.unit (s := S1024x512) ![0, 0] S1024x512.size inb_S1024x512_S1024x512_0_0).toLoadRect)⟩] := rfl
  rw [h, h1.read_unread, h2.read_unread, h3.read_unread, h4.read_unread]

/-- A later point's store into the output block: the product of the resident scratch and what the other scratch reads back. -/
theorem run_B_out (hc : ¬cond0_0 i) (xs0 : Vec F S2048x1024 .bf16) :
    (kernelRun0_B c i a1 h1 a2 h2 a3 h3 a4 h4 a5 h5 a6 h6 a7 h7 hc x0 x1 x2 x3 xs0).1 =
      [⟨Rect.unit (s := S2048x512) ![0, 0] S2048x512.size inb_S2048x512_S2048x512_0_0,
        k0_pay1 (View.ld xs0 (Rect.unit (s := S2048x1024) ![0, 0] S2048x1024.size inb_S2048x1024_S2048x1024_0_0))
          (a7.view.readCov (dPieces x2 x3) (Rect.unit (s := S1024x512) ![0, 0] S1024x512.size inb_S1024x512_S1024x512_0_0).toLoadRect)⟩] := by
  have h : (kernelRun0_B c i a1 h1 a2 h2 a3 h3 a4 h4 a5 h5 a6 h6 a7 h7 hc x0 x1 x2 x3 xs0).1 =
      [⟨Rect.unit (s := S2048x512) ![0, 0] S2048x512.size inb_S2048x512_S2048x512_0_0,
        k0_pay1 (View.ld (a6.view.read (Elt F) (h6.unread xs0))
            (Rect.unit (s := S2048x1024) ![0, 0] S2048x1024.size inb_S2048x1024_S2048x1024_0_0))
          (a7.view.readCov (dPieces (a3.view.read (Elt F) (h3.unread x2)) (a4.view.read (Elt F) (h4.unread x3)))
            (Rect.unit (s := S1024x512) ![0, 0] S1024x512.size inb_S1024x512_S1024x512_0_0).toLoadRect)⟩] := rfl
  rw [h, h3.read_unread, h4.read_unread, h6.read_unread]

end opened

/-- Entry `(b, i, s)` of the dequantised `x`, in exact arithmetic: its code times the scale of its 32 × 32 block. -/
def xdAt (x0 : Vec Ideal S2x2048x512 .i8) (x1 : Vec Ideal S2x64x16 .f32) (i : Fin 2048) (b : Fin 2) (s : Fin 512) : Ideal .bf16 :=
  FloatOps.sitofp (F := Ideal) .bf16 (x0 (ix3 b i s)) * x1 (ix3 b ⟨i.val / 32, by omega⟩ ⟨s.val / 32, by omega⟩)

/-- Entry `(b, s, o)` of the dequantised block of `dy`, in exact arithmetic: its code times the scale of its 32 × 32 block. -/
def dydAt (x2 : Vec Ideal S2x512x512 .i8) (x3 : Vec Ideal S2x1x16x16 .f32) (b : Fin 2) (s : Fin 512) (o : Fin 512) : Ideal .bf16 :=
  FloatOps.sitofp (F := Ideal) .bf16 (x2 (ix3 b s o)) * x3 (ix4 b 0 ⟨s.val / 32, by omega⟩ ⟨o.val / 32, by omega⟩)

/-- The dequantised `x` as the resident scratch holds it: row `i`, column `512 b + s`. -/
def XD (x0 : Vec Ideal S2x2048x512 .i8) (x1 : Vec Ideal S2x64x16 .f32) : Vec Ideal S2048x1024 .bf16 := fun y =>
  xdAt x0 x1 (y 0) ⟨(y 1).val / 512, by have : (y 1).val < 1024 := (y 1).isLt; omega⟩ ⟨(y 1).val % 512, by omega⟩

/-- The dequantised block of `dy` as its scratch holds it: row `512 b + s`, column `o`. -/
def DYD (x2 : Vec Ideal S2x512x512 .i8) (x3 : Vec Ideal S2x1x16x16 .f32) : Vec Ideal S1024x512 .bf16 := fun y =>
  dydAt x2 x3 ⟨(y 0).val / 512, by have : (y 0).val < 1024 := (y 0).isLt; omega⟩ ⟨(y 0).val % 512, by omega⟩ (y 1)

/-- `XD` at an index given by its coordinates' values. -/
theorem XD_of (x0 : Vec Ideal S2x2048x512 .i8) (x1 : Vec Ideal S2x64x16 .f32) (y : S2048x1024.Idx) (i : Fin 2048) (b : Fin 2)
    (s : Fin 512) (h0 : (y 0).val = i.val) (h1 : (y 1).val = 512 * b.val + s.val) : XD x0 x1 y = xdAt x0 x1 i b s := by
  have e0 : y 0 = i := Fin.ext h0
  have e1 : (⟨(y 1).val / 512, by have : (y 1).val < 1024 := (y 1).isLt; omega⟩ : Fin 2) = b := Fin.ext (by show (y 1).val / 512 = b.val; omega)
  have e2 : (⟨(y 1).val % 512, by omega⟩ : Fin 512) = s := Fin.ext (by show (y 1).val % 512 = s.val; omega)
  unfold XD
  rw [e0, e1, e2]

/-- `DYD` at an index given by its coordinates' values. -/
theorem DYD_of (x2 : Vec Ideal S2x512x512 .i8) (x3 : Vec Ideal S2x1x16x16 .f32) (y : S1024x512.Idx) (b : Fin 2) (s : Fin 512)
    (o : Fin 512) (h0 : (y 0).val = 512 * b.val + s.val) (h1 : (y 1).val = o.val) : DYD x2 x3 y = dydAt x2 x3 b s o := by
  have e0 : y 1 = o := Fin.ext h1
  have e1 : (⟨(y 0).val / 512, by have : (y 0).val < 1024 := (y 0).isLt; omega⟩ : Fin 2) = b := Fin.ext (by show (y 0).val / 512 = b.val; omega)
  have e2 : (⟨(y 0).val % 512, by omega⟩ : Fin 512) = s := Fin.ext (by show (y 0).val % 512 = s.val; omega)
  unfold DYD
  rw [e0, e1, e2]

/-- Every chunk of `x` is stored where `XD` has it. -/
theorem xPc_eq (x0 : Vec Ideal S2x2048x512 .i8) (x1 : Vec Ideal S2x64x16 .f32) (b : Fin 2) (r : Fin 8)
    (x : (xPc x0 x1 b r).1.shape.Idx) : (xPc x0 x1 b r).2 x = XD x0 x1 ((xPc x0 x1 b r).1.emb x) := by
  obtain ⟨p, q, rfl⟩ : ∃ (p : Fin 256) (q : Fin 512), x = ix2 p q := ⟨x 0, x 1, by funext a; match a with | 0 => rfl | 1 => rfl⟩
  have e : ∀ a, (((xPc x0 x1 b r).1.emb (ix2 p q)) a : ℕ) = (![256 * r.val, 512 * b.val] : Fin 2 → ℕ) a + ((ix2 p q : S256x512.Idx) a).val :=
    fun a => ValueKit.rect_emb_unit_val (s := S2048x1024) ![256 * r.val, 512 * b.val] S256x512.size (by revert b r; decide) (ix2 p q) a
  refine Eq.trans ?_ (XD_of x0 x1 _ ⟨256 * r.val + p.val, by omega⟩ b q (e 0) (e 1)).symm
  show chunkX _ _ (ix2 p q) = _
  rw [chunkX_apply]
  unfold xdAt
  rw [View.ld_unit_apply_of x0 _ _ _ _ (ix3 b ⟨256 * r.val + p.val, by omega⟩ q)
      (fun a => by match a with | 0 => rfl | 1 => rfl | 2 => exact (Nat.zero_add _).symm),
    View.ld_unit_apply_of x1 _ _ _ _ (ix3 b ⟨(256 * r.val + p.val) / 32, by omega⟩ ⟨q.val / 32, by omega⟩)
      (fun a => by
        match a with
        | 0 => rfl
        | 1 => show (256 * r.val + p.val) / 32 = 8 * r.val + p.val / 32; omega
        | 2 => exact (Nat.zero_add _).symm)]

/-- Every chunk of `dy` is stored where `DYD` has it. -/
theorem dPc_eq (x2 : Vec Ideal S2x512x512 .i8) (x3 : Vec Ideal S2x1x16x16 .f32) (b : Fin 2)
    (x : (dPc x2 x3 b).1.shape.Idx) : (dPc x2 x3 b).2 x = DYD x2 x3 ((dPc x2 x3 b).1.emb x) := by
  obtain ⟨p, q, rfl⟩ : ∃ (p : Fin 512) (q : Fin 512), x = ix2 p q := ⟨x 0, x 1, by funext a; match a with | 0 => rfl | 1 => rfl⟩
  have e : ∀ a, (((dPc x2 x3 b).1.emb (ix2 p q)) a : ℕ) = (![512 * b.val, 0] : Fin 2 → ℕ) a + ((ix2 p q : S512x512.Idx) a).val :=
    fun a => ValueKit.rect_emb_unit_val (s := S1024x512) ![512 * b.val, 0] S512x512.size (by revert b; decide) (ix2 p q) a
  refine Eq.trans ?_ (DYD_of x2 x3 _ b p q (e 0) ((e 1).trans (Nat.zero_add _))).symm
  show chunkD _ _ (ix2 p q) = _
  rw [chunkD_apply]
  unfold dydAt
  rw [View.ld_unit_apply_of x2 _ _ _ _ (ix3 b p q)
      (fun a => by match a with | 0 => rfl | 1 => exact (Nat.zero_add _).symm | 2 => exact (Nat.zero_add _).symm),
    View.ld_unit_apply_of x3 _ _ _ _ (ix4 b 0 ⟨p.val / 32, by omega⟩ ⟨q.val / 32, by omega⟩)
      (fun a => by match a with | 0 => rfl | 1 => rfl | 2 => exact (Nat.zero_add _).symm | 3 => exact (Nat.zero_add _).symm)]

/-- The sixteen stores cover the resident scratch. -/
theorem xPieces_cover (x0 : Vec Ideal S2x2048x512 .i8) (x1 : Vec Ideal S2x64x16 .f32) (y : S2048x1024.Idx) :
    ∃ p ∈ xPieces x0 x1, y ∈ p.1.set :=
  View.cover_of_tiledL (xPieces x0 x1) S256x512.size (by sl_kernel_rfl) y

/-- The two stores cover the block's scratch. -/
theorem dPieces_cover (x2 : Vec Ideal S2x512x512 .i8) (x3 : Vec Ideal S2x1x16x16 .f32) (y : S1024x512.Idx) :
    ∃ p ∈ dPieces x2 x3, y ∈ p.1.set :=
  View.cover_of_tiledL (dPieces x2 x3) S512x512.size (by sl_kernel_rfl) y

/-- The sixteen stores leave the dequantised `x` in the resident scratch. -/
theorem canon_xPieces (x0 : Vec Ideal S2x2048x512 .i8) (x1 : Vec Ideal S2x64x16 .f32) :
    View.canon (xPieces x0 x1) = XD x0 x1 := by
  funext y
  refine View.canon_apply_of_pieces (XD x0 x1) _ (fun p hp => ?_) y (xPieces_cover x0 x1 y)
  simp only [xPieces, List.mem_cons, List.not_mem_nil, or_false] at hp
  rcases hp with rfl | rfl | rfl | rfl | rfl | rfl | rfl | rfl | rfl | rfl | rfl | rfl | rfl | rfl | rfl | rfl <;> exact xPc_eq x0 x1 _ _

/-- The two stores leave the dequantised block of `dy` in the block's scratch. -/
theorem canon_dPieces (x2 : Vec Ideal S2x512x512 .i8) (x3 : Vec Ideal S2x1x16x16 .f32) :
    View.canon (dPieces x2 x3) = DYD x2 x3 := by
  funext y
  refine View.canon_apply_of_pieces (DYD x2 x3) _ (fun p hp => ?_) y (dPieces_cover x2 x3 y)
  simp only [dPieces, List.mem_cons, List.not_mem_nil, or_false] at hp
  rcases hp with rfl | rfl <;> exact dPc_eq x2 x3 _

section contents

variable (c : Dev nD) (i : grid0.Coords) (a1 : Memref sig .tc .vmem S2x2048x512 .i8) (h1 : a1.IsWhole)
    (a2 : Memref sig .tc .vmem S2x64x16 .f32) (h2 : a2.IsWhole) (a3 : Memref sig .tc .vmem S2x512x512 .i8) (h3 : a3.IsWhole)
    (a4 : Memref sig .tc .vmem S2x1x16x16 .f32) (h4 : a4.IsWhole) (a5 : Memref sig .tc .vmem S2048x512 .f32) (h5 : a5.IsWhole)
    (a6 : Memref sig .tc .vmem S2048x1024 .bf16) (h6 : a6.IsWhole) (a7 : Memref sig .tc .vmem S1024x512 .bf16) (h7 : a7.IsWhole)
    (x0 : Vec Ideal S2x2048x512 .i8) (x1 : Vec Ideal S2x64x16 .f32) (x2 : Vec Ideal S2x512x512 .i8) (x3 : Vec Ideal S2x1x16x16 .f32)

/-- The zero offsets of a whole two-axis rectangle. -/
theorem off_zero : (![0, 0] : Fin 2 → ℕ) = fun _ => 0 := by decide

/-- The first point leaves the dequantised `x` in the resident scratch. -/
theorem sout_A (hc : cond0_0 i) :
    sout0_A_0 c i a1 h1 a2 h2 a3 h3 a4 h4 a5 h5 a6 h6 a7 h7 hc x0 x1 x2 x3 = XD x0 x1 := by
  unfold sout0_A_0
  rw [run_A_scratch, View.read_writes_eq_canon _ _ _ (xPieces_cover x0 x1), canon_xPieces]

/-- The first point leaves in the output block the product of the dequantised `x` and the dequantised block of `dy`. -/
theorem out_A (hc : cond0_0 i) :
    out0_A_4 c i a1 h1 a2 h2 a3 h3 a4 h4 a5 h5 a6 h6 a7 h7 hc x0 x1 x2 x3 = k0_pay1 (XD x0 x1) (DYD x2 x3) := by
  unfold out0_A_4
  rw [View.read_writes_eq_canon _ _ _ (cover0_A_4 c i a1 h1 a2 h2 a3 h3 a4 h4 a5 h5 a6 h6 a7 h7 hc x0 x1 x2 x3), run_A_out,
    View.canon_unit_zero off_zero, View.readCov_eq_canon_ld _ _ _ (xPieces_cover x0 x1),
    View.readCov_eq_canon_ld _ _ _ (dPieces_cover x2 x3), canon_xPieces, canon_dPieces,
    View.ld_unit_zero off_zero, View.ld_unit_zero off_zero]

/-- A later point leaves in the output block the product of what the resident scratch holds and the dequantised block of `dy`. -/
theorem out_B (hc : ¬cond0_0 i) (xs0 : Vec Ideal S2048x1024 .bf16) :
    out0_B_4 c i a1 h1 a2 h2 a3 h3 a4 h4 a5 h5 a6 h6 a7 h7 hc x0 x1 x2 x3 xs0 = k0_pay1 xs0 (DYD x2 x3) := by
  unfold out0_B_4
  rw [View.read_writes_eq_canon _ _ _ (cover0_B_4 c i a1 h1 a2 h2 a3 h3 a4 h4 a5 h5 a6 h6 a7 h7 hc x0 x1 x2 x3 xs0), run_B_out,
    View.canon_unit_zero off_zero, View.readCov_eq_canon_ld _ _ _ (dPieces_cover x2 x3), canon_dPieces,
    View.ld_unit_zero off_zero, View.ld_unit_zero off_zero]

end contents

/-- An entry of the output block: the sum over the batches and their rows of the products. -/
theorem pay1_apply (x0 : Vec Ideal S2x2048x512 .i8) (x1 : Vec Ideal S2x64x16 .f32) (x2 : Vec Ideal S2x512x512 .i8)
    (x3 : Vec Ideal S2x1x16x16 .f32) (i : Fin 2048) (o : Fin 512) :
    k0_pay1 (XD x0 x1) (DYD x2 x3) (ix2 i o) = ∑ b : Fin 2, ∑ s : Fin 512, xdAt x0 x1 i b s * dydAt x2 x3 b s o := by
  unfold k0_pay1
  pointwise
  exact Fin.sum_divmod_fin 512 (fun b s => xdAt x0 x1 i b s * dydAt x2 x3 b s o) rfl

end Cert.KernelIdeal.Pieces

end
-- ==== Proof.RefValue.lean ====
/- What the kernel leaves in its result array, in exact arithmetic: the sum the reference names. -/
module

public import proofs.«01_k».proof.Proof.Gen.KernelIdeal.Value
public import proofs.«01_k».proof.Proof.Pieces
public import Idealize.ShloMosaic.Lib.Pointwise
public import Idealize.ShloMosaic.Lib.Pipeline.ValueKit

@[expose] public section

set_option maxRecDepth 16384

noncomputable section

namespace Cert.KernelIdeal.RefValue

open Cert.KernelIdeal Cert.KernelIdeal.Gen Cert.KernelIdeal.Value Cert.KernelIdeal.Pieces Idealize.ShloMosaic Idealize.ShloMosaic.TcCoe

variable (m : (ℓ : Loc nD τ sig) → Buf (Elt Ideal) ℓ) (c : Dev nD)

/-- The printed index maps, decided over the grid: `x` and its scales stay in place, point `t` reads column block `t` of `dy`
    and entry `t` of the regrouped scales. -/
theorem idx : ∀ t : Fin cfg0.N, win0_0.index t = ![0, 0, 0] ∧ win0_1.index t = ![0, 0, 0] ∧ win0_2.index t = ![0, 0, t.val] ∧ win0_3.index t = ![0, t.val, 0, 0] :=
  (by decide +kernel : ∀ t : Fin grid0.N, win0_0.index t = ![0, 0, 0] ∧ win0_1.index t = ![0, 0, 0] ∧ win0_2.index t = ![0, 0, t.val] ∧ win0_3.index t = ![0, t.val, 0, 0])

/-- The grid has 11 points. -/
theorem lt_N (t : Fin cfg0.N) : t.val < 11 := lt_of_lt_of_eq t.isLt N_0

/-- Window 0 holds the codes of `x` whole at every point. -/
theorem iblk0 (t : Fin cfg0.N) : (iblk m c 0 t : Vec Ideal S2x2048x512 .i8) = m ((c : Thread nD τ).loc main_arg0) := by
  funext y
  blk_ext! [iblk, V, idx t]

/-- Window 1 holds the scales of `x` whole at every point. -/
theorem iblk1 (t : Fin cfg0.N) : (iblk m c 1 t : Vec Ideal S2x64x16 .f32) = m ((c : Thread nD τ).loc main_arg1) := by
  funext y
  blk_ext! [iblk, V, idx t]

/-- Window 2 at point `t` holds the codes of columns `512 t …` of `dy`. -/
theorem iblk2 (t : Fin cfg0.N) (b : Fin 2) (s o : Fin 512) : (iblk m c 2 t : Vec Ideal S2x512x512 .i8) (ix3 b s o)
    = m ((c : Thread nD τ).loc main_arg2) (ix3 b s ⟨512 * t.val + o.val, by have := lt_N t; omega⟩) := by
  blk_ext! [iblk, V, idx t]

/-- Window 3 at point `t` holds the scales of block columns `16 t …` of `dy`. -/
theorem iblk3 (t : Fin cfg0.N) (b : Fin 2) (p q : Fin 16) : (iblk m c 3 t : Vec Ideal S2x1x16x16 .f32) (ix4 b 0 p q)
    = m ((c : Thread nD τ).loc main_arg3) (ix3 b p ⟨16 * t.val + q.val, by have := lt_N t; omega⟩) := by
  blk_ext! [iblk, V, idx t]

/-- The dequantised `x` of the arguments, as the resident scratch holds it. -/
abbrev xd : Vec Ideal S2048x1024 .bf16 := XD (m ((c : Thread nD τ).loc main_arg0)) (m ((c : Thread nD τ).loc main_arg1))

/-- After every point the resident scratch holds the dequantised `x`: the first point writes it, the others keep it. -/
theorem scratch : ∀ (n : ℕ) (hn : n < cfg0.N), (outsAt0 m c n hn).2 = xd m c
  | 0, hn => by
    rw [outsAt0_A m c ⟨0, hn⟩ (Nat.zero_mod _)]
    dsimp only
    rw [sout_A, iblk0, iblk1]
  | n + 1, hn => by
    have h0 : ¬(n + 1) % 11 = 0 := by have : n + 1 < 11 := lt_N ⟨n + 1, hn⟩; omega
    rw [outsAt0_B m c ⟨n + 1, hn⟩ h0]
    exact scratch n (Nat.lt_of_succ_lt hn)

/-- After point `t` the output block holds the product of the dequantised `x` and the dequantised block `t` of `dy`. -/
theorem out (t : Fin cfg0.N) : (outsAt0 m c t.val t.isLt).1 = k0_pay1 (xd m c) (DYD (iblk m c 2 t) (iblk m c 3 t)) := by
  by_cases h0 : t.val % 11 = 0
  · rw [outsAt0_A m c t h0]
    dsimp only
    rw [out_A, iblk0, iblk1]
  · rw [outsAt0_B m c t h0]
    dsimp only
    rw [out_B, scratch]

/-- The mathematics of an entry of the result: over the batches and their rows, the dequantised `x` times the dequantised `dy`. -/
def dW (a0 : Vec Ideal S2x2048x512 .i8) (a1 : Vec Ideal S2x64x16 .f32) (a2 : Vec Ideal S2x512x5632 .i8) (a3 : Vec Ideal S2x16x176 .f32)
    (i : Fin 2048) (o : Fin 5632) : Ideal .f32 :=
  ∑ b : Fin 2, ∑ s : Fin 512,
    FloatOps.sitofp (F := Ideal) .bf16 (a0 (ix3 b i s)) * a1 (ix3 b ⟨i.val / 32, by omega⟩ ⟨s.val / 32, by omega⟩)
      * (FloatOps.sitofp (F := Ideal) .bf16 (a2 (ix3 b s o)) * a3 (ix3 b ⟨s.val / 32, by omega⟩ ⟨o.val / 32, by omega⟩))

/-- Entry `(i, j)` of the output block after point `t` is entry `(i, 512 t + j)` of the result. -/
theorem out_apply (t : Fin cfg0.N) (i : Fin 2048) (j : Fin 512) :
    (outsAt0 m c t.val t.isLt).1 (ix2 i j) = dW (m ((c : Thread nD τ).loc main_arg0)) (m ((c : Thread nD τ).loc main_arg1))
      (m ((c : Thread nD τ).loc main_arg2)) (m ((c : Thread nD τ).loc main_arg3)) i ⟨512 * t.val + j.val, by have := lt_N t; omega⟩ := by
  rw [out]
  refine (pay1_apply _ _ _ _ i j).trans (Finset.sum_congr rfl fun b _ => Finset.sum_congr rfl fun s _ => ?_)
  have e : (⟨(512 * t.val + j.val) / 32, by have := lt_N t; omega⟩ : Fin 176) = ⟨16 * t.val + (⟨j.val / 32, by omega⟩ : Fin 16).val, by have := lt_N t; dsimp only; omega⟩ :=
    Fin.ext (by show (512 * t.val + j.val) / 32 = 16 * t.val + j.val / 32; omega)
  unfold xdAt dydAt
  rw [iblk2, iblk3, e]

/-- The result array after the run, at an index: the mathematics of that entry. -/
theorem G4_apply (i : S2048x5632.Idx) : G4 m c i = dW (m ((c : Thread nD τ).loc main_arg0)) (m ((c : Thread nD τ).loc main_arg1))
    (m ((c : Thread nD τ).loc main_arg2)) (m ((c : Thread nD τ).loc main_arg3)) (i 0) (i 1) := by
  have hi0 : (i 0).val < 2048 := (i 0).isLt
  have hi1 : (i 1).val < 5632 := (i 1).isLt
  have hp : pt4Of i = (i 1).val / 512 := by unfold pt4Of run4Of; omega
  have hN : pt4Of i < cfg0.N := by rw [hp]; exact lt_of_lt_of_eq (by omega) N_0.symm
  unfold G4
  rw [dif_pos hN, ← outsAt0_sweep m c (pt4Of i) hN]
  have hl : loc4Of i = (ix2 (i 0) ⟨(i 1).val % 512, by omega⟩ : S2048x512.Idx) := by
    funext a
    refine Fin.ext ?_
    match a with
    | 0 => show (i 0).val % 2048 = (i 0).val; omega
    | 1 => rfl
  rw [hl]
  refine (out_apply m c ⟨pt4Of i, hN⟩ (i 0) ⟨(i 1).val % 512, by omega⟩).trans ?_
  exact congrArg (dW _ _ _ _ (i 0)) (Fin.ext (by show 512 * pt4Of i + (i 1).val % 512 = (i 1).val; omega))

end Cert.KernelIdeal.RefValue

end
-- ==== Proof.RefTerm.lean ====
/- The reference's composed term at an index, in exact arithmetic: the sum over the batches and their rows of the dequantised
   `x` times the dequantised `dy`. -/
module

public import proofs.«01_k».proof.Proof.Gen.ReferenceIdeal.Run
public import proofs.«01_k».proof.Proof.RefValue
public import Idealize.ShloMosaic.Lib.Pointwise
public import Idealize.ShloMosaic.Lib.Pipeline.ValueKit

@[expose] public section

set_option maxRecDepth 16384

noncomputable section

namespace Cert.ReferenceIdeal.RefTerm

open Cert.ReferenceIdeal Cert.ReferenceIdeal.Gen Idealize.ShloMosaic

/-- Widening a code to 32 bits before the conversion does not change its value. -/
theorem sitofp_widen (b : BitVec 8) : FloatOps.sitofp (F := Ideal) .bf16 (b.signExtend 32) = FloatOps.sitofp (F := Ideal) .bf16 b := by
  show (((b.signExtend 32).toInt : ℝ) : EReal) = ((b.toInt : ℝ) : EReal)
  rw [BitVec.toInt_signExtend_of_le (by decide)]

/-- The dequantised `x` of the reference at an index: the code times the scale of its 32 × 32 block. -/
theorem x_apply (a0 : Vec Ideal S2x2048x512 .i8) (a1 : Vec Ideal S2x64x16 .f32) (b : Fin 2) (i : Fin 2048) (s : Fin 512) :
    (shapeCast S2x2048x512 (mulf (sitofp .bf16 (extsi 32 (shapeCast S2x64x32x16x32 a0 shapeCasts_S2x2048x512_S2x64x32x16x32) natLt_8_32))
      (broadcastInDim S2x64x32x16x32 ![0, 1, 2, 3, 4] bcast_S2x64x1x16x1_S2x64x32x16x32_0_1_2_3_4
        (broadcastInDim S2x64x1x16x1 ![0, 1, 3] bcast_S2x64x16_S2x64x1x16x1_0_1_3 (truncf .bf16 a1 bitsLt_bf16_f32))))
      shapeCasts_S2x64x32x16x32_S2x2048x512 : FVec Ideal S2x2048x512 .bf16) (ix3 b i s)
      = FloatOps.sitofp (F := Ideal) .bf16 (a0 (ix3 b i s)) * a1 (ix3 b ⟨i.val / 32, by omega⟩ ⟨s.val / 32, by omega⟩) := by
  pointwise
  rw [sitofp_widen]

/-- The dequantised `dy` of the reference at an index: the code times the scale of its 32 × 32 block. -/
theorem dy_apply (a2 : Vec Ideal S2x512x5632 .i8) (a3 : Vec Ideal S2x16x176 .f32) (b : Fin 2) (s : Fin 512) (o : Fin 5632) :
    (shapeCast S2x512x5632 (mulf (sitofp .bf16 (extsi 32 (shapeCast S2x16x32x176x32 a2 shapeCasts_S2x512x5632_S2x16x32x176x32) natLt_8_32))
      (broadcastInDim S2x16x32x176x32 ![0, 1, 2, 3, 4] bcast_S2x16x1x176x1_S2x16x32x176x32_0_1_2_3_4
        (broadcastInDim S2x16x1x176x1 ![0, 1, 3] bcast_S2x16x176_S2x16x1x176x1_0_1_3 (truncf .bf16 a3 bitsLt_bf16_f32))))
      shapeCasts_S2x16x32x176x32_S2x512x5632 : FVec Ideal S2x512x5632 .bf16) (ix3 b s o)
      = FloatOps.sitofp (F := Ideal) .bf16 (a2 (ix3 b s o)) * a3 (ix3 b ⟨s.val / 32, by omega⟩ ⟨o.val / 32, by omega⟩) := by
  pointwise
  rw [sitofp_widen]

/-- The reference's contraction at an index: the sum over the batches and their rows. -/
theorem dot_apply (u : FVec Ideal S2x2048x512 .bf16) (v : FVec Ideal S2x512x5632 .bf16) (i : Fin 2048) (o : Fin 5632) :
    (Host.dotGeneral dot_S2x2048x512_S2x512x5632_S2048x5632_02_01_1_2_n_n none u v : FVec Ideal S2048x5632 .f32) (ix2 i o)
      = ∑ b : Fin 2, ∑ s : Fin 512, u (ix3 b i s) * v (ix3 b s o) := by
  pointwise

/-- The reference's result at an index is the mathematics of that entry. -/
theorem ref_apply (a0 : Vec Ideal S2x2048x512 .i8) (a1 : Vec Ideal S2x64x16 .f32) (a2 : Vec Ideal S2x512x5632 .i8)
    (a3 : Vec Ideal S2x16x176 .f32) (i : S2048x5632.Idx) :
    (Host.dotGeneral dot_S2x2048x512_S2x512x5632_S2048x5632_02_01_1_2_n_n none
      (shapeCast S2x2048x512 (mulf (sitofp .bf16 (extsi 32 (shapeCast S2x64x32x16x32 a0 shapeCasts_S2x2048x512_S2x64x32x16x32) natLt_8_32))
        (broadcastInDim S2x64x32x16x32 ![0, 1, 2, 3, 4] bcast_S2x64x1x16x1_S2x64x32x16x32_0_1_2_3_4
          (broadcastInDim S2x64x1x16x1 ![0, 1, 3] bcast_S2x64x16_S2x64x1x16x1_0_1_3 (truncf .bf16 a1 bitsLt_bf16_f32))))
        shapeCasts_S2x64x32x16x32_S2x2048x512)
      (shapeCast S2x512x5632 (mulf (sitofp .bf16 (extsi 32 (shapeCast S2x16x32x176x32 a2 shapeCasts_S2x512x5632_S2x16x32x176x32) natLt_8_32))
        (broadcastInDim S2x16x32x176x32 ![0, 1, 2, 3, 4] bcast_S2x16x1x176x1_S2x16x32x176x32_0_1_2_3_4
          (broadcastInDim S2x16x1x176x1 ![0, 1, 3] bcast_S2x16x176_S2x16x1x176x1_0_1_3 (truncf .bf16 a3 bitsLt_bf16_f32))))
        shapeCasts_S2x16x32x176x32_S2x512x5632) : FVec Ideal S2048x5632 .f32) i
      = Cert.KernelIdeal.RefValue.dW a0 a1 a2 a3 (i 0) (i 1) := by
  obtain ⟨p, q, rfl⟩ : ∃ (p : Fin 2048) (q : Fin 5632), i = ix2 p q := ⟨i 0, i 1, by funext a; match a with | 0 => rfl | 1 => rfl⟩
  refine (dot_apply _ _ p q).trans (Finset.sum_congr rfl fun b _ => Finset.sum_congr rfl fun s _ => ?_)
  rw [x_apply, dy_apply]
  rfl

end Cert.ReferenceIdeal.RefTerm

end
-- ==== Proof.lean ====
module

public import proofs.«01_k».proof.Defs
public import proofs.«01_k».proof.Proof.Gen.Kernel.Frame
public import proofs.«01_k».proof.Proof.Gen.KernelIdeal.Value
public import proofs.«01_k».proof.Proof.RefValue
public import proofs.«01_k».proof.Proof.RefTerm
public import proofs.«01_k».proof.Proof.Gen.ReferenceIdeal.Run
public import Idealize.ShloMosaic.Adequacy
public import Idealize.ShloMosaic.Init
public import Idealize.ShloMosaic.Lib.Quiescent
public import Idealize.ShloMosaic.Lib.Pointwise
public import Idealize.ShloMosaic.Lib.Tactic

@[expose] public section

noncomputable section

namespace Cert.Proof

open Idealize.ShloMosaic Idealize.SL.Sem

/-- The reference terminates without fault, leaves its arguments unchanged and ends with every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference return the same array of extended reals, and leave their arguments
    unchanged. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  exact (Cert.ReferenceIdeal.RefTerm.ref_apply _ _ _ _ i).trans (Cert.KernelIdeal.RefValue.G4_apply m c i).symm

/-- All five claims hold. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
